-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x4096 : Shape := ⟨3, ![3, 3072, 4096]⟩
abbrev S3x3072x1 : Shape := ⟨3, ![3, 3072, 1]⟩
abbrev S4096x3584 : Shape := ⟨2, ![4096, 3584]⟩
abbrev S1x3584 : Shape := ⟨2, ![1, 3584]⟩
abbrev S3x3072x3584 : Shape := ⟨3, ![3, 3072, 3584]⟩
abbrev S9216x4096 : Shape := ⟨2, ![9216, 4096]⟩
abbrev S9216x1 : Shape := ⟨2, ![9216, 1]⟩
abbrev S9216x3584 : Shape := ⟨2, ![9216, 3584]⟩
abbrev S256x4096 : Shape := ⟨2, ![256, 4096]⟩
abbrev S256x1 : Shape := ⟨2, ![256, 1]⟩
abbrev S256x3584 : Shape := ⟨2, ![256, 3584]⟩
abbrev S256x128 : Shape := ⟨2, ![256, 128]⟩
abbrev S4096x512 : Shape := ⟨2, ![4096, 512]⟩
abbrev S256x512 : Shape := ⟨2, ![256, 512]⟩
abbrev S1x512 : Shape := ⟨2, ![1, 512]⟩
abbrev S256 : Shape := ⟨1, ![256]⟩
abbrev S1x256 : Shape := ⟨2, ![1, 256]⟩
abbrev S256x256 : Shape := ⟨2, ![256, 256]⟩

abbrev nBuf : Space → Nat
  | .hbm => 10
  | .vmem => 13
  | .smem => 0
  | _ => 0

abbrev bufTy : (tb : Table) → Fin (tcTables nBuf tb) → BufTy
  | .hbm, ⟨0, _⟩ => ⟨S3x3072x4096, .fp8e4m3⟩
  | .hbm, ⟨1, _⟩ => ⟨S3x3072x1, .f32⟩
  | .hbm, ⟨2, _⟩ => ⟨S4096x3584, .fp8e4m3⟩
  | .hbm, ⟨3, _⟩ => ⟨S1x3584, .f32⟩
  | .hbm, ⟨4, _⟩ => ⟨S3x3072x3584, .bf16⟩
  | .hbm, ⟨5, _⟩ => ⟨S9216x4096, .fp8e4m3⟩
  | .hbm, ⟨6, _⟩ => ⟨S9216x1, .f32⟩
  | .hbm, ⟨7, _⟩ => ⟨S9216x3584, .bf16⟩
  | .hbm, ⟨8, _⟩ => ⟨S9216x1, .f32⟩
  | .hbm, ⟨9, _⟩ => ⟨S9216x3584, .fp8e4m3⟩
  | .local _ .vmem, ⟨0, _⟩ => ⟨S256x4096, .fp8e4m3⟩
  | .local _ .vmem, ⟨1, _⟩ => ⟨S256x4096, .fp8e4m3⟩
  | .local _ .vmem, ⟨2, _⟩ => ⟨S256x1, .f32⟩
  | .local _ .vmem, ⟨3, _⟩ => ⟨S256x1, .f32⟩
  | .local _ .vmem, ⟨4, _⟩ => ⟨S4096x3584, .fp8e4m3⟩
  | .local _ .vmem, ⟨5, _⟩ => ⟨S1x3584, .f32⟩
  | .local _ .vmem, ⟨6, _⟩ => ⟨S256x3584, .bf16⟩
  | .local _ .vmem, ⟨7, _⟩ => ⟨S256x3584, .bf16⟩
  | .local _ .vmem, ⟨8, _⟩ => ⟨S256x1, .f32⟩
  | .local _ .vmem, ⟨9, _⟩ => ⟨S256x1, .f32⟩
  | .local _ .vmem, ⟨10, _⟩ => ⟨S256x3584, .fp8e4m3⟩
  | .local _ .vmem, ⟨11, _⟩ => ⟨S256x3584, .fp8e4m3⟩
  | .local _ .vmem, ⟨12, _⟩ => ⟨S256x3584, .f32⟩
  | _, _ => ⟨S3x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x3072x4096 : Shape := ⟨3, ![3, 3072, 4096]⟩
abbrev S3x3072x1 : Shape := ⟨3, ![3, 3072, 1]⟩
abbrev S4096x3584 : Shape := ⟨2, ![4096, 3584]⟩
abbrev S1x3584 : Shape := ⟨2, ![1, 3584]⟩
abbrev S3x3072x3584 : Shape := ⟨3, ![3, 3072, 3584]⟩
abbrev S9216x4096 : Shape := ⟨2, ![9216, 4096]⟩
abbrev S9216x1 : Shape := ⟨2, ![9216, 1]⟩
abbrev S9216x3584 : Shape := ⟨2, ![9216, 3584]⟩
abbrev S9216 : Shape := ⟨1, ![9216]⟩
abbrev S1x254 : Shape := ⟨2, ![1, 254]⟩
abbrev S9216x254 : Shape := ⟨2, ![9216, 254]⟩

abbrev nBuf : Space → Nat
  | .hbm => 10
  | .vmem => 7
  | .smem => 0
  | _ => 0

abbrev bufTy : (tb : Table) → Fin (tcTables nBuf tb) → BufTy
  | .hbm, ⟨0, _⟩ => ⟨S3x3072x4096, .fp8e4m3⟩
  | .hbm, ⟨1, _⟩ => ⟨S3x3072x1, .f32⟩
  | .hbm, ⟨2, _⟩ => ⟨S4096x3584, .fp8e4m3⟩
  | .hbm, ⟨3, _⟩ => ⟨S1x3584, .f32⟩
  | .hbm, ⟨4, _⟩ => ⟨S3x3072x3584, .bf16⟩
  | .hbm, ⟨5, _⟩ => ⟨S9216x4096, .fp8e4m3⟩
  | .hbm, ⟨6, _⟩ => ⟨S9216x1, .f32⟩
  | .hbm, ⟨7, _⟩ => ⟨S9216x3584, .bf16⟩
  | .hbm, ⟨8, _⟩ => ⟨S9216x1, .f32⟩
  | .hbm, ⟨9, _⟩ => ⟨S9216x3584, .fp8e4m3⟩
  | .local _ .vmem, ⟨0, _⟩ => ⟨S9216x4096, .fp8e4m3⟩
  | .local _ .vmem, ⟨1, _⟩ => ⟨S9216x1, .f32⟩
  | .local _ .vmem, ⟨2, _⟩ => ⟨S4096x3584, .fp8e4m3⟩
  | .local _ .vmem, ⟨3, _⟩ => ⟨S1x3584, .f32⟩
  | .local _ .vmem, ⟨4, _⟩ => ⟨S9216x3584, .bf16⟩
  | .local _ .vmem, ⟨5, _⟩ => ⟨S9216x1, .f32⟩
  | .local _ .vmem, ⟨6, _⟩ => ⟨S9216x3584, .fp8e4m3⟩
  | _, _ => ⟨S3x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9216x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
module

public import Idealize.ShloMosaic.Lib.Pointwise

/-! # The exponent of a scale, on extended reals

Both programs pick, for a row whose largest magnitude is `a`, the exponent `e` of a power of two.

* The kernel compares `a · (1/448)` with the 256 numbers whose bit words are `k · 2^23` and keeps the largest `k` that is not
  above it.
* The reference takes the least `e` with `a · (1/448) < 2^e`.

This module states the two as scalar functions, `kernelExp` and `refExp`, and proves them equal for every extended real. It also
proves that the bit words the kernel builds out of `e` denote `2^e` and `2^(-e)`. -/

@[expose] public section

noncomputable section

namespace Cert.Scale

open Idealize.ShloMosaic

/-- The word `k · 2^23`: biased exponent `k`, no fraction bits. -/
abbrev word (k : Nat) : BitVec 32 := IntOp.shli .vector (BitVec.ofNat 32 k) 23#32

/-- `1/448` rounded to f32. -/
abbrev recip448 : EReal := Ideal.ofBits .f32 0x3B124925#32

/-- The kernel's largest word below `t`. -/
def kernelFold (t : EReal) : BitVec 32 :=
  Finset.fold IntOp.maxsi (2147483648#32) (fun x : Fin 256 => if Ideal.ofBits .f32 (word x) ≤ t then word x else 0#32) Finset.univ

/-- The exponent field of that word. -/
def kernelField (t : EReal) : BitVec 32 := IntOp.andi (IntOp.shrsi .vector (kernelFold t) 23#32) 255#32

/-- The kernel's exponent for the largest magnitude `a`. -/
def kernelExp (a : EReal) : BitVec 32 :=
  Scalar.select (IntOp.ori (IntOp.ori (IntOp.cmpi .eq (kernelField (a * recip448)) 0#32) (IntOp.cmpi .eq (kernelField (a * recip448)) 255#32))
    (BitVec.ofBool (decide (a = 0)))) (0#32) (IntOp.subi (kernelField (a * recip448)) 126#32)

/-- The reference's least exponent above `t`. -/
def refFold (t : EReal) : BitVec 32 :=
  Finset.fold IntOp.minsi (2147483647#32) (fun x : Fin 254 =>
    if t < FloatOps.exp2 (F := Ideal) (φ := .f32) (FloatOps.sitofp .f32 (IntOp.subi (BitVec.ofNat 32 x) 125#32))
      then IntOp.subi (BitVec.ofNat 32 x) 125#32 else 128#32) Finset.univ

/-- The reference's exponent for `t`, as `frexp` gives it. -/
def refFrexp (t : EReal) : BitVec 32 :=
  Scalar.select (IntOp.ori (BitVec.ofBool (decide (t < Ideal.ofBits .f32 8388608#32)))
    (BitVec.ofBool (decide (t = Ideal.ofBits .f32 2139095040#32)))) (0#32) (refFold t)

/-- The reference's exponent for the largest magnitude `a`. -/
def refExp (a : EReal) : BitVec 32 := if a = 0 then 0#32 else refFrexp (a * recip448)

/-- The reference's `2^e`: infinity above the normal range, zero below it. -/
def refPow (e : BitVec 32) : EReal :=
  Scalar.select (IntOp.cmpi .sgt e 127#32) (Ideal.ofBits .f32 2139095040#32)
    (Scalar.select (IntOp.cmpi .slt e 4294967170#32) 0 (FloatOps.exp2 (F := Ideal) (φ := .f32) (FloatOps.sitofp .f32 e)))

/-- The kernel's word of `2^e`. -/
abbrev scaleWord (e : BitVec 32) : BitVec 32 := IntOp.shli .vector (IntOp.minsi (IntOp.addi 127#32 e) 255#32) 23#32

/-- The kernel's word of `2^(-e)`. -/
abbrev inverseWord (e : BitVec 32) : BitVec 32 := IntOp.shli .vector (IntOp.maxsi (IntOp.subi 127#32 e) 0#32) 23#32

/-! ## What the words denote -/

theorem word_fields : ∀ k : Fin 256, (word k).extractLsb' 31 1 = 0#1 ∧ ((word k).extractLsb' 23 8).toNat = k.val
    ∧ ((word k).extractLsb' 0 23).toNat = 0 := by decide +kernel

/-- A word with exponent field `k` and nothing else set, by the value of `k`. -/
theorem ieee_fields (b : BitVec 32) (k : Nat) (g0 : b.extractLsb' 31 1 = 0#1) (g1 : (b.extractLsb' 23 8).toNat = k)
    (g2 : (b.extractLsb' 0 23).toNat = 0) :
    Ideal.ieee 8 23 b = if k = 255 then ⊤ else if k = 0 then 0 else (((2 : ℝ) ^ ((k : ℤ) - 127) : ℝ) : EReal) := by
  unfold Ideal.ieee
  simp only [g0, g1, g2, Nat.reduceAdd, Nat.reducePow, Nat.reduceSub]
  by_cases h : k = 255
  · rw [if_pos h, if_pos h]; rfl
  · rw [if_neg h, if_neg h]
    by_cases h0 : k = 0
    · rw [if_pos h0, if_pos h0]
      simp
    · rw [if_neg h0, if_neg h0]
      congr 1
      simp only [show ((0#1 : BitVec 1) == 1#1) = false from rfl, Bool.false_eq_true, if_false, one_mul, Nat.add_zero]
      have : ((8388608 : ℕ) : ℝ) = (2 : ℝ) ^ (23 : ℤ) := by norm_num
      rw [this, ← zpow_add₀ (by norm_num)]
      congr 1
      push_cast
      ring

theorem word_zero : Ideal.ofBits .f32 (word 0) = 0 := by
  obtain ⟨g0, g1, g2⟩ := word_fields 0
  exact (ieee_fields _ 0 g0 g1 g2).trans (by rw [if_neg (by omega), if_pos rfl])

theorem word_top : Ideal.ofBits .f32 (word 255) = ⊤ := by
  obtain ⟨g0, g1, g2⟩ := word_fields 255
  exact (ieee_fields _ 255 g0 g1 g2).trans (if_pos rfl)

theorem word_pow (k : Nat) (h1 : 1 ≤ k) (h2 : k ≤ 254) : Ideal.ofBits .f32 (word k) = (((2 : ℝ) ^ ((k : ℤ) - 127) : ℝ) : EReal) := by
  obtain ⟨g0, g1, g2⟩ := word_fields ⟨k, by omega⟩
  exact (ieee_fields _ k g0 g1 g2).trans (by rw [if_neg (by omega), if_neg (by omega)])

/-- A power of two as the reference computes it. -/
theorem exp2_int (e : BitVec 32) : FloatOps.exp2 (F := Ideal) (φ := .f32) (FloatOps.sitofp .f32 e) = (((2 : ℝ) ^ e.toInt : ℝ) : EReal) := by
  show Ideal.exp2 (((e.toInt : ℝ)) : EReal) = _
  rw [Ideal.exp2_coe]
  congr 1
  exact Real.rpow_intCast 2 e.toInt

theorem two_zpow_le {a b : ℤ} (h : a ≤ b) : (((2 : ℝ) ^ a : ℝ) : EReal) ≤ (((2 : ℝ) ^ b : ℝ) : EReal) :=
  EReal.coe_le_coe_iff.2 (zpow_le_zpow_right₀ (by norm_num) h)

theorem word_mono {j k : Nat} (h : j ≤ k) (hk : k ≤ 255) : Ideal.ofBits .f32 (word j) ≤ Ideal.ofBits .f32 (word k) := by
  rcases Nat.eq_zero_or_pos j with rfl | hj
  · rw [word_zero]
    rcases Nat.eq_zero_or_pos k with rfl | hk0
    · rw [word_zero]
    · rcases Nat.lt_or_ge k 255 with h5 | h5
      · rw [word_pow k hk0 (by omega)]
        exact EReal.coe_nonneg.2 (by positivity)
      · obtain rfl : k = 255 := by omega
        rw [word_top]; exact le_top
  · rcases Nat.lt_or_ge k 255 with h5 | h5
    · rw [word_pow k (by omega) (by omega), word_pow j (by omega) (by omega)]
      exact two_zpow_le (by omega)
    · obtain rfl : k = 255 := by omega
      rw [word_top]; exact le_top

/-! ## The two folds -/

theorem toInt_maxsi (x y : BitVec 32) : (IntOp.maxsi x y).toInt = max x.toInt y.toInt := by
  unfold IntOp.maxsi
  by_cases h : y.toInt < x.toInt
  · rw [if_pos (by simpa [BitVec.slt] using h), max_eq_left h.le]
  · rw [if_neg (by simpa [BitVec.slt] using h), max_eq_right (not_lt.1 h)]

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

/-- A signed maximum over an index set is the word `v` that one index reaches and none passes. -/
theorem fold_maxsi_eq {n : Nat} (f : Fin n → BitVec 32) (v : BitVec 32) (K : Fin n) (hK : f K = v) (h : ∀ k, (f k).toInt ≤ v.toInt) :
    Finset.fold IntOp.maxsi (2147483648#32) f Finset.univ = v := by
  apply BitVec.eq_of_toInt_eq
  have hf : (Finset.fold IntOp.maxsi (2147483648#32) f Finset.univ).toInt
      = Finset.fold max (2147483648#32 : BitVec 32).toInt (fun k => (f k).toInt) Finset.univ :=
    (Finset.fold_hom (op := IntOp.maxsi) (op' := max) (m := BitVec.toInt) toInt_maxsi).symm
  rw [hf]
  apply le_antisymm
  · rw [Finset.fold_max_le]
    exact ⟨by have := BitVec.le_toInt v; simp at this ⊢; omega, fun k _ => h k⟩
  · rw [Finset.le_fold_max]
    exact Or.inr ⟨K, Finset.mem_univ _, by rw [hK]⟩

/-- A signed minimum likewise. -/
theorem fold_minsi_eq {n : Nat} (f : Fin n → BitVec 32) (v : BitVec 32) (K : Fin n) (hK : f K = v) (h : ∀ k, v.toInt ≤ (f k).toInt) :
    Finset.fold IntOp.minsi (2147483647#32) f Finset.univ = v := by
  apply BitVec.eq_of_toInt_eq
  have hf : (Finset.fold IntOp.minsi (2147483647#32) f Finset.univ).toInt
      = Finset.fold min (2147483647#32 : BitVec 32).toInt (fun k => (f k).toInt) Finset.univ :=
    (Finset.fold_hom (op := IntOp.minsi) (op' := min) (m := BitVec.toInt) toInt_minsi).symm
  rw [hf]
  apply le_antisymm
  · rw [Finset.fold_min_le]
    exact Or.inr ⟨K, Finset.mem_univ _, by rw [hK]⟩
  · rw [Finset.le_fold_min]
    exact ⟨by have := BitVec.toInt_lt (x := v); simp at this ⊢; omega, fun k _ => h k⟩

theorem word_toInt : ∀ k : Fin 256, (word k).toInt = (k.val : ℤ) * 8388608 := by decide +kernel

theorem field_word : ∀ k : Fin 256, IntOp.andi (IntOp.shrsi .vector (word k) 23#32) 255#32 = BitVec.ofNat 32 k.val := by decide +kernel

/-- If `K` is the last index whose number is not above `t`, the kernel's exponent field is `K`. -/
theorem kernelField_eq (t : EReal) (K : Nat) (hK : K ≤ 255) (hle : Ideal.ofBits .f32 (word K) ≤ t)
    (hlt : ∀ k, K < k → k ≤ 255 → ¬ Ideal.ofBits .f32 (word k) ≤ t) : kernelField t = BitVec.ofNat 32 K := by
  have hv : kernelFold t = word K := by
    refine fold_maxsi_eq _ (word K) ⟨K, by omega⟩ (if_pos hle) fun k => ?_
    show (if Ideal.ofBits .f32 (word k) ≤ t then word k else 0#32).toInt ≤ (word K).toInt
    have hw := word_toInt ⟨K, by omega⟩
    simp only at hw
    split
    · rename_i hk
      have : k.val ≤ K := by
        by_contra hc
        exact hlt k (by omega) (by omega) hk
      rw [word_toInt k, hw]
      omega
    · rw [hw]
      simp
  rw [kernelField, hv]
  exact field_word ⟨K, by omega⟩

/-- Where nothing but (at most) the word `0` is below `t`, the field is zero. -/
theorem kernelField_small (t : EReal) (h : t < Ideal.ofBits .f32 (word 1)) : kernelField t = 0#32 := by
  by_cases h0 : Ideal.ofBits .f32 (word 0) ≤ t
  · exact kernelField_eq t 0 (by omega) h0 fun k hk hk' hc => absurd (lt_of_lt_of_le h (word_mono (by omega : 1 ≤ k) hk')) (not_lt.2 hc)
  · have hv : kernelFold t = 0#32 := by
      refine fold_maxsi_eq _ 0#32 ⟨0, by omega⟩ (if_neg h0) fun k => ?_
      rw [if_neg fun hc => h0 (le_trans (word_mono (Nat.zero_le _) (by omega)) hc)]
    rw [kernelField, hv]
    decide

theorem sub125_toInt : ∀ k : Fin 254, (IntOp.subi (BitVec.ofNat 32 k.val) 125#32).toInt = (k.val : ℤ) - 125 := by decide +kernel

theorem sub126_toInt : ∀ k : Fin 255, (IntOp.subi (BitVec.ofNat 32 k.val) 126#32).toInt = (k.val : ℤ) - 126 := by decide +kernel

theorem sub_shift : ∀ k : Fin 254, IntOp.subi (BitVec.ofNat 32 k.val) 125#32 = IntOp.subi (BitVec.ofNat 32 (k.val + 1)) 126#32 := by
  decide +kernel

/-- For `2^(K-127) ≤ t < 2^(K-126)` the reference's exponent is `K - 126`. -/
theorem refFold_eq (t : EReal) (K : Nat) (h1 : 1 ≤ K) (h2 : K ≤ 254) (hle : Ideal.ofBits .f32 (word K) ≤ t)
    (hlt : t < Ideal.ofBits .f32 (word (K + 1))) : refFold t = IntOp.subi (BitVec.ofNat 32 K) 126#32 := by
  have hs : IntOp.subi (BitVec.ofNat 32 (K - 1)) 125#32 = IntOp.subi (BitVec.ofNat 32 K) 126#32 := by
    have h := sub_shift ⟨K - 1, by omega⟩
    simp only at h
    rw [h, show K - 1 + 1 = K by omega]
  have hv := sub126_toInt ⟨K, by omega⟩
  simp only at hv
  refine fold_minsi_eq _ _ ⟨K - 1, by omega⟩ ?_ fun k => ?_
  · show (if t < FloatOps.exp2 (F := Ideal) (φ := .f32) (FloatOps.sitofp .f32 (IntOp.subi (BitVec.ofNat 32 (K - 1)) 125#32))
      then IntOp.subi (BitVec.ofNat 32 (K - 1)) 125#32 else 128#32) = _
    rw [hs]
    rcases Nat.lt_or_ge K 254 with h | h
    · rw [if_pos]
      rw [exp2_int, hv]
      rw [word_pow (K + 1) (by omega) (by omega)] at hlt
      rwa [show ((K + 1 : ℕ) : ℤ) - 127 = (K : ℤ) - 126 by push_cast; ring] at hlt
    · obtain rfl : K = 254 := by omega
      split <;> rfl
  · rw [hv]
    show _ ≤ (if t < FloatOps.exp2 (F := Ideal) (φ := .f32) (FloatOps.sitofp .f32 (IntOp.subi (BitVec.ofNat 32 k.val) 125#32))
      then IntOp.subi (BitVec.ofNat 32 k.val) 125#32 else 128#32).toInt
    split
    · rename_i hk
      rw [exp2_int, sub125_toInt k] at hk
      rw [sub125_toInt k]
      by_contra hc
      rw [word_pow K h1 h2] at hle
      have : (((2 : ℝ) ^ ((k.val : ℤ) - 125) : ℝ) : EReal) ≤ (((2 : ℝ) ^ ((K : ℤ) - 127) : ℝ) : EReal) := two_zpow_le (by omega)
      exact absurd (lt_of_le_of_lt hle hk) (not_lt.2 this)
    · show _ ≤ (128 : ℤ)
      omega

/-! ## The two exponents agree -/

/-- Every `t` at or above the least normal number and below infinity lies between two consecutive numbers. -/
theorem exists_bracket (t : EReal) (h1 : Ideal.ofBits .f32 (word 1) ≤ t) (h2 : t ≠ ⊤) :
    ∃ K, 1 ≤ K ∧ K ≤ 254 ∧ Ideal.ofBits .f32 (word K) ≤ t ∧ t < Ideal.ofBits .f32 (word (K + 1)) := by
  classical
  have hex : ∃ n, 1 ≤ n ∧ n ≤ 255 ∧ t < Ideal.ofBits .f32 (word n) :=
    ⟨255, by omega, le_rfl, by rw [word_top]; exact lt_top_iff_ne_top.2 h2⟩
  obtain ⟨hn1, hn2, hn3⟩ := Nat.find_spec hex
  have hmin := fun m => Nat.find_min hex (m := m)
  generalize Nat.find hex = n at hn1 hn2 hn3 hmin
  have hn : n ≠ 1 := by rintro rfl; exact absurd hn3 (not_lt.2 h1)
  refine ⟨n - 1, by omega, by omega, ?_, by rw [show n - 1 + 1 = n by omega]; exact hn3⟩
  by_contra hc
  exact hmin (n - 1) (by omega) ⟨by omega, by omega, not_le.1 hc⟩

theorem select_one {α : Type} (x y : α) : Scalar.select 1#1 x y = x := rfl
theorem select_zero {α : Type} (x y : α) : Scalar.select 0#1 x y = y := rfl

theorem lowest : Ideal.ofBits .f32 8388608#32 = Ideal.ofBits .f32 (word 1) := congrArg (Ideal.ofBits .f32) (by decide)
theorem highest : Ideal.ofBits .f32 2139095040#32 = ⊤ := (congrArg (Ideal.ofBits .f32) (by decide)).trans word_top

theorem field_middle : ∀ k : Fin 255, 1 ≤ k.val →
    IntOp.ori (IntOp.cmpi .eq (BitVec.ofNat 32 k.val) 0#32) (IntOp.cmpi .eq (BitVec.ofNat 32 k.val) 255#32) = 0#1 := by decide +kernel

/-- Both exponents, by cases on where `a / 448` lies. -/
theorem exponents (a : EReal) : kernelExp a = refExp a ∧ ∃ K, 1 ≤ K ∧ K ≤ 254 ∧ refExp a = IntOp.subi (BitVec.ofNat 32 K) 126#32 := by
  have hz : (0#32 : BitVec 32) = IntOp.subi (BitVec.ofNat 32 126) 126#32 := by decide
  by_cases h0 : a = 0
  · have hr : refExp a = 0#32 := if_pos h0
    refine ⟨?_, 126, by omega, by omega, by rw [hr]; exact hz⟩
    rw [hr, kernelExp, decide_eq_true h0]
    have : ∀ b, IntOp.ori b (BitVec.ofBool true) = 1#1 := by decide
    rw [this, select_one]
  · have hr : refExp a = refFrexp (a * recip448) := if_neg h0
    have hk : ∀ b, IntOp.ori b (BitVec.ofBool (decide (a = 0))) = b := by
      rw [decide_eq_false h0]; decide
    rw [hr, kernelExp, hk]
    generalize a * recip448 = t
    rw [refFrexp, lowest, highest]
    by_cases h1 : t < Ideal.ofBits .f32 (word 1)
    · rw [decide_eq_true h1, kernelField_small t h1]
      have : ∀ b, IntOp.ori (BitVec.ofBool true) b = 1#1 := by decide
      rw [this, select_one]
      exact ⟨rfl, 126, by omega, by omega, hz⟩
    · rw [decide_eq_false h1]
      by_cases h2 : t = ⊤
      · rw [decide_eq_true h2]
        have hf : kernelField t = BitVec.ofNat 32 255 :=
          kernelField_eq t 255 (by omega) (by rw [h2]; exact le_top) fun k hk hk' => absurd hk (by omega)
        rw [hf]
        have hl : IntOp.ori (IntOp.cmpi .eq (BitVec.ofNat 32 255) 0#32) (IntOp.cmpi .eq (BitVec.ofNat 32 255) 255#32) = 1#1 := by decide
        have hr : IntOp.ori (BitVec.ofBool false) (BitVec.ofBool true) = 1#1 := by decide
        rw [hl, hr, select_one, select_one]
        exact ⟨rfl, 126, by omega, by omega, hz⟩
      · rw [decide_eq_false h2]
        obtain ⟨K, hK1, hK2, hle, hlt⟩ := exists_bracket t (not_lt.1 h1) h2
        have hf : kernelField t = BitVec.ofNat 32 K :=
          kernelField_eq t K (by omega) hle fun k hk hk' hc =>
            absurd (lt_of_lt_of_le hlt (word_mono (by omega) hk')) (not_lt.2 hc)
        have hm := field_middle ⟨K, by omega⟩ hK1
        simp only at hm
        rw [hf, hm, select_zero]
        have : IntOp.ori (BitVec.ofBool false) (BitVec.ofBool false) = 0#1 := by decide
        rw [this, select_zero, refFold_eq t K hK1 hK2 hle hlt]
        exact ⟨rfl, K, hK1, hK2, rfl⟩

/-- The kernel's exponent is the reference's. -/
theorem kernelExp_eq (a : EReal) : kernelExp a = refExp a := (exponents a).1

/-! ## The two scales agree -/

theorem scaleWord_eq : ∀ k : Fin 255, 1 ≤ k.val → scaleWord (IntOp.subi (BitVec.ofNat 32 k.val) 126#32) = word (k.val + 1) := by
  decide +kernel

theorem inverseWord_eq : ∀ k : Fin 255, 1 ≤ k.val → inverseWord (IntOp.subi (BitVec.ofNat 32 k.val) 126#32) = word (253 - k.val) := by
  decide +kernel

theorem above_false : ∀ k : Fin 254, IntOp.cmpi .sgt (IntOp.subi (BitVec.ofNat 32 k.val) 126#32) 127#32 = 0#1
    ∧ IntOp.cmpi .slt (IntOp.subi (BitVec.ofNat 32 k.val) 126#32) 4294967170#32 = 0#1 := by decide +kernel

theorem neg_above_false : ∀ k : Fin 255, 1 ≤ k.val →
    IntOp.cmpi .sgt (IntOp.subi 0#32 (IntOp.subi (BitVec.ofNat 32 k.val) 126#32)) 127#32 = 0#1
    ∧ IntOp.cmpi .slt (IntOp.subi 0#32 (IntOp.subi (BitVec.ofNat 32 k.val) 126#32)) 4294967170#32 = BitVec.ofBool (decide (253 ≤ k.val))
    ∧ (IntOp.subi 0#32 (IntOp.subi (BitVec.ofNat 32 k.val) 126#32)).toInt = 126 - (k.val : ℤ) := by decide +kernel

/-- The kernel's scale word denotes the reference's `2^e`. -/
theorem scale_eq (a : EReal) : Ideal.ofBits .f32 (scaleWord (refExp a)) = refPow (refExp a) := by
  obtain ⟨K, h1, h2, he⟩ := (exponents a).2
  have hs := scaleWord_eq ⟨K, by omega⟩ h1
  have hv := sub126_toInt ⟨K, by omega⟩
  simp only at hs hv
  rw [he, hs, refPow]
  rcases Nat.lt_or_ge K 254 with h | h
  · have ha := above_false ⟨K, h⟩
    simp only at ha
    rw [ha.1, ha.2, select_zero, select_zero, exp2_int, hv, word_pow (K + 1) (by omega) (by omega)]
    congr 2
    push_cast
    ring
  · obtain rfl : K = 254 := by omega
    rw [highest, word_top]
    rfl

/-- The kernel's inverse word denotes the reference's `2^(-e)`. -/
theorem inverse_eq (a : EReal) : Ideal.ofBits .f32 (inverseWord (refExp a)) = refPow (IntOp.subi 0#32 (refExp a)) := by
  obtain ⟨K, h1, h2, he⟩ := (exponents a).2
  have hs := inverseWord_eq ⟨K, by omega⟩ h1
  have hv := neg_above_false ⟨K, by omega⟩ h1
  simp only at hs hv
  rw [he, hs, refPow, hv.1, hv.2.1, select_zero]
  rcases Nat.lt_or_ge K 253 with h | h
  · rw [decide_eq_false (by omega), exp2_int, hv.2.2, word_pow (253 - K) (by omega) (by omega)]
    show _ = ((2 ^ _ : ℝ) : EReal)
    congr 2
    push_cast [Nat.cast_sub (by omega : K ≤ 253)]
    ring
  · rw [decide_eq_true h, show 253 - K = 0 by omega, word_zero]
    rfl

end Cert.Scale

end
-- ==== Proof.RowMax.lean ====
module

public import proofs.«01_k».proof.Proof.Exponent

/-! # The largest magnitude of a row

One element before quantisation, a row's largest magnitude, and the same maximum taken lane by lane: 128 running maxima that start
at zero, each over the columns that are equal modulo 128. -/

@[expose] public section

noncomputable section

namespace Cert.Scale

open Idealize.ShloMosaic

/-- One element before quantisation: the product, the two scales, the residual. -/
def value (x w : Fin 4096 → EReal) (xs ws res : EReal) : EReal := (∑ k, x k * w k) * xs * ws + res

/-- A row's largest magnitude. -/
def amax (y : Fin 3584 → EReal) : EReal :=
  Finset.fold max (Ideal.ofBits FTy.f32 4286578688#32) (fun c => FloatOps.absf (F := Ideal) (φ := .f32) (y c)) Finset.univ

/-- A quantised element: times the inverse scale, clipped at ±448. -/
def code (v inv : EReal) : EReal := min (Ideal.ofBits FTy.f32 1138753536#32) (max (Ideal.ofBits FTy.f32 3286237184#32) (v * inv))

/-- The magnitude at column `n`. -/
def absAt (y : Fin 3584 → EReal) (n : Nat) : EReal := if h : n < 3584 then FloatOps.absf (F := Ideal) (φ := .f32) (y ⟨n, h⟩) else 0

/-- Lane `l` after `n` groups of 128 columns. -/
def lane (y : Fin 3584 → EReal) : Nat → Nat → EReal
  | 0, _ => 0
  | n + 1, l => max (lane y n l) (absAt y (128 * n + l))

theorem lane_le (y : Fin 3584 → EReal) (n l : Nat) (z : EReal) : lane y n l ≤ z ↔ 0 ≤ z ∧ ∀ k, k < n → absAt y (128 * k + l) ≤ z := by
  induction n with
  | zero => simp [lane]
  | succ n ih =>
    rw [lane, max_le_iff, ih]
    constructor
    · rintro ⟨⟨h0, h⟩, hn⟩
      refine ⟨h0, fun k hk => ?_⟩
      rcases Nat.lt_succ_iff_lt_or_eq.1 hk with h' | rfl
      · exact h k h'
      · exact hn
    · rintro ⟨h0, h⟩
      exact ⟨⟨h0, fun k hk => h k (by omega)⟩, h n (by omega)⟩

theorem abs_nonneg' (x : EReal) : 0 ≤ FloatOps.absf (F := Ideal) (φ := .f32) x := by
  show 0 ≤ max x (-x)
  rcases le_total 0 x with h | h
  · exact le_max_of_le_left h
  · exact le_max_of_le_right (by simpa using EReal.neg_le_neg_iff.2 h)

/-- The maximum over the 128 lanes is the row's maximum. -/
theorem lanes_eq (y : Fin 3584 → EReal) :
    Finset.fold max (Ideal.ofBits FTy.f32 4286578688#32) (fun l : Fin 128 => lane y 28 l) Finset.univ = amax y := by
  refine eq_of_forall_ge_iff fun z => ?_
  rw [amax, Finset.fold_max_le, Finset.fold_max_le]
  refine and_congr_right fun _ => ⟨fun h c _ => ?_, fun h l _ => ?_⟩
  · have := ((lane_le y 28 (c.val % 128) z).1 (h ⟨c.val % 128, Nat.mod_lt _ (by omega)⟩ (Finset.mem_univ _))).2 (c.val / 128) (by omega)
    rw [Nat.div_add_mod, absAt, dif_pos c.isLt] at this
    exact this
  · refine (lane_le y 28 l z).2 ⟨le_trans (abs_nonneg' (y 0)) (h 0 (Finset.mem_univ _)), fun k hk => ?_⟩
    rw [absAt, dif_pos (by omega)]
    exact h _ (Finset.mem_univ _)

/-- Four groups at once: what one 512-wide tile adds to a lane. -/
theorem lane_tile (y : Fin 3584 → EReal) (j l : Nat) (hj : j < 7) (hl : l < 128) (a b c d : EReal)
    (ha : a = y ⟨512 * j + l, by omega⟩) (hb : b = y ⟨512 * j + (128 + l), by omega⟩)
    (hc : c = y ⟨512 * j + (256 + l), by omega⟩) (hd : d = y ⟨512 * j + (384 + l), by omega⟩) :
    max (max (max (max (lane y (4 * j) l) (FloatOps.absf (F := Ideal) (φ := .f32) a)) (FloatOps.absf (F := Ideal) (φ := .f32) b))
      (FloatOps.absf (F := Ideal) (φ := .f32) c)) (FloatOps.absf (F := Ideal) (φ := .f32) d) = lane y (4 * (j + 1)) l := by
  have e : ∀ n m (v : EReal) (h : m < 3584), v = y ⟨m, h⟩ → 128 * n + l = m → absAt y (128 * n + l) = FloatOps.absf (F := Ideal) (φ := .f32) v := by
    rintro n m v h rfl rfl
    rw [absAt, dif_pos h]
  rw [show 4 * (j + 1) = 4 * j + 1 + 1 + 1 + 1 by omega]
  simp only [lane]
  rw [e _ _ a _ ha (by omega), e _ _ b _ hb (by omega), e _ _ c _ hc (by omega), e _ _ d _ hd (by omega)]

end Cert.Scale

end
-- ==== Proof.Block.lean ====
module

public import proofs.«01_k».proof.Proof.Gen.KernelIdeal.Value
public import proofs.«01_k».proof.Proof.RowMax
public import Idealize.ShloMosaic.Lib.Pipeline.Value
public import Idealize.ShloMosaic.Lib.Affine
public import Idealize.ShloMosaic.Lib.Tactic

/-! # What the kernel leaves in a block

The kernel walks a 256-row block in seven 512-column tiles. This module reads its two outputs, at an index, as the scale word and
the clipped product that `Exponent` and `RowMax` speak of. -/

@[expose] public section

noncomputable section

namespace Cert.Scale

open Idealize.ShloMosaic Idealize.SL.Sem Cert.KernelIdeal
open Cert.KernelIdeal.Gen Idealize.ShloMosaic.TcCoe
open Idealize.ShloMosaic.Pipeline (Dat Cfg Window)

theorem hz : (![0, 0] : Fin 2 → Nat) = fun _ => 0 := funext fun a => by fin_cases a <;> rfl

section Structure

variable {F : FTy → Type} [FloatOps F]

/-- What one tile adds to the 128 running maxima. -/
def step (v : FVec F S256x128 .f32) (t : FVec F S256x512 .f32) : FVec F S256x128 .f32 :=
  maximumf (maximumf (maximumf (maximumf v
    (extractStridedSlice S256x128 ![0, 0] (absf t) slices_S256x512_o0_0_S256x128))
    (extractStridedSlice S256x128 ![0, 128] (absf t) slices_S256x512_o0_128_S256x128))
    (extractStridedSlice S256x128 ![0, 256] (absf t) slices_S256x512_o0_256_S256x128))
    (extractStridedSlice S256x128 ![0, 384] (absf t) slices_S256x512_o0_384_S256x128)

variable (x0 : Vec F S256x4096 .fp8e4m3) (x1 : Vec F S256x1 .f32) (x2 : Vec F S4096x3584 .fp8e4m3)
    (x3 : Vec F S1x3584 .f32) (x4 : Vec F S256x3584 .bf16)

/-- The tile that starts at column `J`. -/
def tile (J : Nat) (h2 : ∀ a, (![0, J] : Fin 2 → Nat) a + (![4096, 512] : Fin 2 → Nat) a ≤ S4096x3584.size a)
    (h3 : ∀ a, (![0, J] : Fin 2 → Nat) a + (![1, 512] : Fin 2 → Nat) a ≤ S1x3584.size a)
    (h4 : ∀ a, (![0, J] : Fin 2 → Nat) a + (![256, 512] : Fin 2 → Nat) a ≤ S256x3584.size a) : FVec F S256x512 .f32 :=
  k0_pay5 x0 x1 (View.ld x2 (Rect.unit ![0, J] ![4096, 512] h2)) (View.ld x3 (Rect.unit ![0, J] ![1, 512] h3))
    (View.ld x4 (Rect.unit ![0, J] ![256, 512] h4))

abbrev tile0 := tile x0 x1 x2 x3 x4 0 inb_S4096x3584_S4096x512_0_0 inb_S1x3584_S1x512_0_0 inb_S256x3584_S256x512_0_0
abbrev tile1 := tile x0 x1 x2 x3 x4 512 inb_S4096x3584_S4096x512_0_512 inb_S1x3584_S1x512_0_512 inb_S256x3584_S256x512_0_512
abbrev tile2 := tile x0 x1 x2 x3 x4 1024 inb_S4096x3584_S4096x512_0_1024 inb_S1x3584_S1x512_0_1024 inb_S256x3584_S256x512_0_1024
abbrev tile3 := tile x0 x1 x2 x3 x4 1536 inb_S4096x3584_S4096x512_0_1536 inb_S1x3584_S1x512_0_1536 inb_S256x3584_S256x512_0_1536
abbrev tile4 := tile x0 x1 x2 x3 x4 2048 inb_S4096x3584_S4096x512_0_2048 inb_S1x3584_S1x512_0_2048 inb_S256x3584_S256x512_0_2048
abbrev tile5 := tile x0 x1 x2 x3 x4 2560 inb_S4096x3584_S4096x512_0_2560 inb_S1x3584_S1x512_0_2560 inb_S256x3584_S256x512_0_2560
abbrev tile6 := tile x0 x1 x2 x3 x4 3072 inb_S4096x3584_S4096x512_0_3072 inb_S1x3584_S1x512_0_3072 inb_S256x3584_S256x512_0_3072

/-- The running maxima after the first five tiles. -/
def lanes5 : FVec F S256x128 .f32 :=
  step (step (step (step (step (broadcast S256x128 (Scalar.ofBits .f32 0x00000000#32)) (tile0 x0 x1 x2 x3 x4)) (tile1 x0 x1 x2 x3 x4))
    (tile2 x0 x1 x2 x3 x4)) (tile3 x0 x1 x2 x3 x4)) (tile4 x0 x1 x2 x3 x4)

/-- After all seven. -/
def lanes7 : FVec F S256x128 .f32 := step (step (lanes5 x0 x1 x2 x3 x4) (tile5 x0 x1 x2 x3 x4)) (tile6 x0 x1 x2 x3 x4)

/-- The last tile's magnitudes. -/
abbrev mag6 : FVec F S256x512 .f32 := absf (tile6 x0 x1 x2 x3 x4)

/-- The running maxima before the last tile's last slice. -/
def lanesLast : FVec F S256x128 .f32 :=
  maximumf (maximumf (maximumf (step (lanes5 x0 x1 x2 x3 x4) (tile5 x0 x1 x2 x3 x4))
    (extractStridedSlice S256x128 ![0, 0] (mag6 x0 x1 x2 x3 x4) slices_S256x512_o0_0_S256x128))
    (extractStridedSlice S256x128 ![0, 128] (mag6 x0 x1 x2 x3 x4) slices_S256x512_o0_128_S256x128))
    (extractStridedSlice S256x128 ![0, 256] (mag6 x0 x1 x2 x3 x4) slices_S256x512_o0_256_S256x128)

/-- The seven stores into the scratch buffer. -/
abbrev pieces : List (View.Piece (Elt F) S256x3584 .f32) :=
  [⟨Rect.unit ![0, 3072] ![256, 512] inb_S256x3584_S256x512_0_3072, tile6 x0 x1 x2 x3 x4⟩,
   ⟨Rect.unit ![0, 2560] ![256, 512] inb_S256x3584_S256x512_0_2560, tile5 x0 x1 x2 x3 x4⟩,
   ⟨Rect.unit ![0, 2048] ![256, 512] inb_S256x3584_S256x512_0_2048, tile4 x0 x1 x2 x3 x4⟩,
   ⟨Rect.unit ![0, 1536] ![256, 512] inb_S256x3584_S256x512_0_1536, tile3 x0 x1 x2 x3 x4⟩,
   ⟨Rect.unit ![0, 1024] ![256, 512] inb_S256x3584_S256x512_0_1024, tile2 x0 x1 x2 x3 x4⟩,
   ⟨Rect.unit ![0, 512] ![256, 512] inb_S256x3584_S256x512_0_512, tile1 x0 x1 x2 x3 x4⟩,
   ⟨Rect.unit ![0, 0] ![256, 512] inb_S256x3584_S256x512_0_0, tile0 x0 x1 x2 x3 x4⟩]

/-- The scratch buffer once the seven tiles are stored. -/
def scratch : Vec F S256x3584 .f32 := View.canon (pieces x0 x1 x2 x3 x4)

/-- The kernel's first output: its scale word of its exponent. -/
def blockScale : Vec F S256x1 .f32 := k0_pay1 (k0_pay29 (mag6 x0 x1 x2 x3 x4) (lanesLast x0 x1 x2 x3 x4))

/-- The kernel's second output: the clipped products. -/
def blockCodes : Vec F S256x3584 .fp8e4m3 :=
  k0_pay2 (k0_pay28 (mag6 x0 x1 x2 x3 x4) (lanesLast x0 x1 x2 x3 x4)) 0#32 (scratch x0 x1 x2 x3 x4)

variable (c : Dev nD) (i : grid0.Coords) (arg1 : Memref sig .tc .vmem S256x4096 .fp8e4m3) (harg1 : arg1.IsWhole) (arg2 : Memref sig .tc .vmem S256x1 .f32) (harg2 : arg2.IsWhole) (arg3 : Memref sig .tc .vmem S4096x3584 .fp8e4m3) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x1 .f32) (harg6 : arg6.IsWhole) (arg7 : Memref sig .tc .vmem S256x3584 .fp8e4m3) (harg7 : arg7.IsWhole) (arg8 : Memref sig .tc .vmem S256x3584 .f32) (harg8 : arg8.IsWhole)

theorem out5_eq :
    out0_A_5 c i arg1 harg1 arg2 harg2 arg3 harg3 arg4 harg4 arg5 harg5 arg6 harg6 arg7 harg7 arg8 harg8 x0 x1 x2 x3 x4 = blockScale x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x4096) hz, View.ld_unit_zero (S := S256x1) hz]
  rfl

theorem out6_eq :
    out0_A_6 c i arg1 harg1 arg2 harg2 arg3 harg3 arg4 harg4 arg5 harg5 arg6 harg6 arg7 harg7 arg8 harg8 x0 x1 x2 x3 x4 = blockCodes x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x4096) hz, View.ld_unit_zero (S := S256x1) hz,
    View.readCov_eq_canon']
  rw [blockCodes]
  refine congrArg (k0_pay2 _ _) ?_
  rw [scratch, ← View.ld_unit_zero (S := S256x3584) hz inb_S256x3584_S256x3584_0_0 (View.canon (pieces x0 x1 x2 x3 x4))]
  simp only [k0_pay24, k0_pay22, k0_pay19, k0_pay17, k0_pay13, k0_pay11, k0_pay6, shapeCast_self]
  rfl

end Structure

/-! ## At the ideal values -/

variable (x0 : Vec Ideal S256x4096 .fp8e4m3) (x1 : Vec Ideal S256x1 .f32) (x2 : Vec Ideal S4096x3584 .fp8e4m3)
    (x3 : Vec Ideal S1x3584 .f32) (x4 : Vec Ideal S256x3584 .bf16)

/-- One row of a block before quantisation. -/
def rowY (r : Fin 256) (c : Fin 3584) : EReal :=
  value (fun k => x0 (ix2 r k)) (fun k => x2 (ix2 k c)) (x1 (ix2 r 0)) (x3 (ix2 0 c)) (x4 (ix2 r c))

theorem tile_apply (J : Nat) (h2 : ∀ a, (![0, J] : Fin 2 → Nat) a + (![4096, 512] : Fin 2 → Nat) a ≤ S4096x3584.size a)
    (h3 : ∀ a, (![0, J] : Fin 2 → Nat) a + (![1, 512] : Fin 2 → Nat) a ≤ S1x3584.size a) (h4 : ∀ a, (![0, J] : Fin 2 → Nat) a + (![256, 512] : Fin 2 → Nat) a ≤ S256x3584.size a)
    (r : Fin 256) (l : Fin 512) (hJ : J + l < 3584) :
    tile x0 x1 x2 x3 x4 J h2 h3 h4 (ix2 r l) = rowY x0 x1 x2 x3 x4 r ⟨J + l, hJ⟩ := by
  pointwise [tile, k0_pay5, k0_pay3, k0_pay4]
  rfl

theorem step_apply (v : FVec Ideal S256x128 .f32) (t : FVec Ideal S256x512 .f32) (y : Fin 3584 → EReal) (r : Fin 256) (l : Fin 128) (j : Nat)
    (hj : j < 7) (hv : v (ix2 r l) = lane y (4 * j) l) (ht : ∀ m : Fin 512, t (ix2 r m) = y ⟨512 * j + m, by omega⟩) :
    step v t (ix2 r l) = lane y (4 * (j + 1)) l := by
  rw [← lane_tile y j l hj l.isLt _ _ _ _ (ht ⟨l, by omega⟩) (ht ⟨128 + l, by omega⟩) (ht ⟨256 + l, by omega⟩) (ht ⟨384 + l, by omega⟩), ← hv]
  pointwise [step]

theorem lanes7_apply (r : Fin 256) (l : Fin 128) : lanes7 x0 x1 x2 x3 x4 (ix2 r l) = lane (rowY x0 x1 x2 x3 x4 r) 28 l := by
  refine step_apply _ _ _ r l 6 (by omega) ?_ fun m => tile_apply x0 x1 x2 x3 x4 3072 _ _ _ r m (by omega)
  refine step_apply _ _ _ r l 5 (by omega) ?_ fun m => tile_apply x0 x1 x2 x3 x4 2560 _ _ _ r m (by omega)
  refine step_apply _ _ _ r l 4 (by omega) ?_ fun m => tile_apply x0 x1 x2 x3 x4 2048 _ _ _ r m (by omega)
  refine step_apply _ _ _ r l 3 (by omega) ?_ fun m => tile_apply x0 x1 x2 x3 x4 1536 _ _ _ r m (by omega)
  refine step_apply _ _ _ r l 2 (by omega) ?_ fun m => tile_apply x0 x1 x2 x3 x4 1024 _ _ _ r m (by omega)
  refine step_apply _ _ _ r l 1 (by omega) ?_ fun m => tile_apply x0 x1 x2 x3 x4 512 _ _ _ r m (by omega)
  refine step_apply _ _ _ r l 0 (by omega) ?_ fun m => tile_apply x0 x1 x2 x3 x4 0 _ _ _ r m (by omega)
  exact Ideal.ofBits_zero_f32

set_option maxRecDepth 16384 in
/-- The kernel's exponent, over the row maximum its last step takes. -/
theorem pay27_apply (v157 : FVec Ideal S256x512 .f32) (v163 : FVec Ideal S256x128 .f32) (r : Fin 256) :
   k0_pay27 v157 v163 (ix2 r 0) = kernelExp (Finset.fold max (Ideal.ofBits FTy.f32 4286578688#32) (fun x : Fin 128 =>
     (maximumf v163 (extractStridedSlice S256x128 ![0, 384] v157 slices_S256x512_o0_384_S256x128)) (ix2 r x)) Finset.univ) := by
  pointwise [k0_pay27]
  rfl

theorem exp_apply (r : Fin 256) : k0_pay27 (mag6 x0 x1 x2 x3 x4) (lanesLast x0 x1 x2 x3 x4) (ix2 r 0)
    = refExp (amax (rowY x0 x1 x2 x3 x4 r)) := by
  rw [pay27_apply, kernelExp_eq, ← lanes_eq]
  refine congrArg refExp (congrArg (fun f => Finset.fold max _ f Finset.univ) (funext fun l => ?_))
  exact lanes7_apply x0 x1 x2 x3 x4 r l

/-- The block's scale at a row. -/
theorem blockScale_apply (r : Fin 256) : blockScale x0 x1 x2 x3 x4 (ix2 r 0) = refPow (refExp (amax (rowY x0 x1 x2 x3 x4 r))) := by
  rw [← scale_eq, ← exp_apply]
  pointwise [blockScale, k0_pay1, k0_pay29]

/-- Every stored tile restricts the one function `rowY`. -/
theorem piece_apply (J : Nat) (hJ : J + 512 ≤ 3584) (h2 : ∀ a, (![0, J] : Fin 2 → Nat) a + (![4096, 512] : Fin 2 → Nat) a ≤ S4096x3584.size a)
    (h3 : ∀ a, (![0, J] : Fin 2 → Nat) a + (![1, 512] : Fin 2 → Nat) a ≤ S1x3584.size a) (h4 : ∀ a, (![0, J] : Fin 2 → Nat) a + (![256, 512] : Fin 2 → Nat) a ≤ S256x3584.size a)
    (x : (Rect.unit (s := S256x3584) ![0, J] ![256, 512] h4).shape.Idx) :
    tile x0 x1 x2 x3 x4 J h2 h3 h4 x
      = rowY x0 x1 x2 x3 x4 ((Rect.unit (s := S256x3584) ![0, J] ![256, 512] h4).emb x 0) ((Rect.unit (s := S256x3584) ![0, J] ![256, 512] h4).emb x 1) := by
  obtain ⟨a, b, rfl⟩ : ∃ (a : Fin 256) (b : Fin 512), x = ix2 a b := ⟨x 0, x 1, eq_ix2 x⟩
  refine (tile_apply x0 x1 x2 x3 x4 J h2 h3 h4 a b (by omega)).trans ?_
  have e0 : (Rect.unit (s := S256x3584) ![0, J] ![256, 512] h4).emb (ix2 a b) 0 = a := Fin.ext (by
    show 0 + 1 * a.val = a.val
    omega)
  have e1 : (Rect.unit (s := S256x3584) ![0, J] ![256, 512] h4).emb (ix2 a b) 1 = (⟨J + b, by omega⟩ : Fin 3584) := Fin.ext (by
    show J + 1 * b.val = J + b.val
    omega)
  rw [e0, e1]

theorem scratch_apply (r : Fin 256) (c : Fin 3584) : scratch x0 x1 x2 x3 x4 (ix2 r c) = rowY x0 x1 x2 x3 x4 r c := by
  refine View.canon_apply_of_pieces (fun j => rowY x0 x1 x2 x3 x4 (j 0) (j 1)) (pieces x0 x1 x2 x3 x4) ?_ (ix2 r c) ?_
  · intro p hp
    simp only [pieces, List.mem_cons, List.not_mem_nil, or_false] at hp
    rcases hp with rfl | rfl | rfl | rfl | rfl | rfl | rfl <;> exact fun x => piece_apply x0 x1 x2 x3 x4 _ (by omega) _ _ _ x
  · exact View.cover_of_tiled (pieces x0 x1 x2 x3 x4) ![256, 512] (by rfl) (ix2 r c)

/-- The block's code at an element. -/
theorem blockCodes_apply (r : Fin 256) (c : Fin 3584) : blockCodes x0 x1 x2 x3 x4 (ix2 r c)
    = code (rowY x0 x1 x2 x3 x4 r c) (refPow (IntOp.subi 0#32 (refExp (amax (rowY x0 x1 x2 x3 x4 r))))) := by
  rw [← inverse_eq, ← exp_apply, ← scratch_apply]
  pointwise [blockCodes, k0_pay2, k0_pay28]
  rfl

end Cert.Scale

end
-- ==== Proof.Spec.lean ====
module

public import proofs.«01_k».proof.Proof.RowMax

/-! # The two result arrays, element by element

What both programs leave, as functions of the five arrays their regions read: the scale of a row and the code of an element. -/

@[expose] public section

noncomputable section

namespace Cert.Scale

open Idealize.ShloMosaic

variable (X : Vec Ideal ⟨2, ![9216, 4096]⟩ .fp8e4m3) (S : Vec Ideal ⟨2, ![9216, 1]⟩ .f32) (W : Vec Ideal ⟨2, ![4096, 3584]⟩ .fp8e4m3)
    (T : Vec Ideal ⟨2, ![1, 3584]⟩ .f32) (R : Vec Ideal ⟨2, ![9216, 3584]⟩ .bf16)

/-- One row before quantisation. -/
def row (r : Fin 9216) (c : Fin 3584) : EReal :=
  value (fun k => X (ix2 r k)) (fun k => W (ix2 k c)) (S (ix2 r 0)) (T (ix2 0 c)) (R (ix2 r c))

/-- A row's scale. -/
def scaleAt (r : Fin 9216) : EReal := refPow (refExp (amax (row X S W T R r)))

/-- An element's code. -/
def codeAt (r : Fin 9216) (c : Fin 3584) : EReal :=
  code (row X S W T R r c) (refPow (IntOp.subi 0#32 (refExp (amax (row X S W T R r)))))

end Cert.Scale

end
-- ==== Proof.KerArr.lean ====
module

public import proofs.«01_k».proof.Proof.Block
public import proofs.«01_k».proof.Proof.Spec

/-! # The kernel's result arrays

Grid point `t` reads and writes rows 256·t to 256·t + 255, so the two arrays it leaves are those of `Spec`. -/

@[expose] public section

noncomputable section

namespace Cert.Scale.Ker

open Idealize.ShloMosaic Idealize.SL.Sem Cert.KernelIdeal
open Cert.KernelIdeal.Gen Idealize.ShloMosaic.TcCoe
open Idealize.ShloMosaic.Pipeline (Dat Cfg Window)

variable (m : (ℓ : Loc nD τ sig) → Buf (Elt Ideal) ℓ) (c : Dev nD)

/-- The five arrays the region reads. -/
abbrev X : Vec Ideal S9216x4096 .fp8e4m3 := V m c main_v0
abbrev S : Vec Ideal S9216x1 .f32 := V m c main_v1
abbrev W : Vec Ideal S4096x3584 .fp8e4m3 := V m c main_arg2
abbrev T : Vec Ideal S1x3584 .f32 := V m c main_arg3
abbrev R : Vec Ideal S9216x3584 .bf16 := V m c main_v2

/-- Where the blocks of each window lie. -/
theorem idx_facts : ∀ t : Fin cfg0.N,
    (win0_0.index t (0 : Fin 2) = t ∧ win0_0.index t (1 : Fin 2) = 0) ∧ (win0_1.index t (0 : Fin 2) = t ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t ∧ win0_4.index t (1 : Fin 2) = 0) ∧ (win0_5.index t (0 : Fin 2) = t ∧ win0_5.index t (1 : Fin 2) = 0)
    ∧ (win0_6.index t (0 : Fin 2) = t ∧ win0_6.index t (1 : Fin 2) = 0) :=
  (by decide +kernel : ∀ t : Fin grid0.N, _)

theorem N_eq : cfg0.N = 36 := by decide

/-- The array's row that row `r` of block `t` is. -/
def at_ (t : Fin cfg0.N) (r : Fin 256) : Fin 9216 := ⟨256 * t + r, by have := t.isLt; have := N_eq; omega⟩

theorem emb0 (t : Fin cfg0.N) (a : Fin 256) (b : Fin 4096) : ((cfg0.win 0).blk t).view.emb (ix2 a b) = (ix2 (at_ t a) b : S9216x4096.Idx) := by
  obtain ⟨⟨e0, e1⟩, -⟩ := idx_facts t
  funext d; apply Fin.ext
  match d with
  | ⟨0, _⟩ => show win0_0.index t (0 : Fin 2) * 256 + 1 * a.val = 256 * t.val + a.val; omega
  | ⟨1, _⟩ => show win0_0.index t (1 : Fin 2) * 4096 + 1 * b.val = b.val; omega

theorem emb1 (t : Fin cfg0.N) (a : Fin 256) (b : Fin 1) : ((cfg0.win 1).blk t).view.emb (ix2 a b) = (ix2 (at_ t a) b : S9216x1.Idx) := by
  obtain ⟨-, ⟨e0, e1⟩, -⟩ := idx_facts t
  funext d; apply Fin.ext
  match d with
  | ⟨0, _⟩ => show win0_1.index t (0 : Fin 2) * 256 + 1 * a.val = 256 * t.val + a.val; omega
  | ⟨1, _⟩ => show win0_1.index t (1 : Fin 2) * 1 + 1 * b.val = b.val; omega

theorem emb2 (t : Fin cfg0.N) (a : Fin 4096) (b : Fin 3584) : ((cfg0.win 2).blk t).view.emb (ix2 a b) = (ix2 a b : S4096x3584.Idx) := by
  obtain ⟨-, -, ⟨e0, e1⟩, -⟩ := idx_facts t
  funext d; apply Fin.ext
  match d with
  | ⟨0, _⟩ => show win0_2.index t (0 : Fin 2) * 4096 + 1 * a.val = a.val; omega
  | ⟨1, _⟩ => show win0_2.index t (1 : Fin 2) * 3584 + 1 * b.val = b.val; omega

theorem emb3 (t : Fin cfg0.N) (a : Fin 1) (b : Fin 3584) : ((cfg0.win 3).blk t).view.emb (ix2 a b) = (ix2 a b : S1x3584.Idx) := by
  obtain ⟨-, -, -, ⟨e0, e1⟩, -⟩ := idx_facts t
  funext d; apply Fin.ext
  match d with
  | ⟨0, _⟩ => show win0_3.index t (0 : Fin 2) * 1 + 1 * a.val = a.val; omega
  | ⟨1, _⟩ => show win0_3.index t (1 : Fin 2) * 3584 + 1 * b.val = b.val; omega

theorem emb4 (t : Fin cfg0.N) (a : Fin 256) (b : Fin 3584) : ((cfg0.win 4).blk t).view.emb (ix2 a b) = (ix2 (at_ t a) b : S9216x3584.Idx) := by
  obtain ⟨-, -, -, -, ⟨e0, e1⟩, -⟩ := idx_facts t
  funext d; apply Fin.ext
  match d with
  | ⟨0, _⟩ => show win0_4.index t (0 : Fin 2) * 256 + 1 * a.val = 256 * t.val + a.val; omega
  | ⟨1, _⟩ => show win0_4.index t (1 : Fin 2) * 3584 + 1 * b.val = b.val; omega

theorem emb5 (t : Fin cfg0.N) (a : Fin 256) (b : Fin 1) : ((cfg0.win 5).blk t).view.emb (ix2 a b) = (ix2 (at_ t a) b : S9216x1.Idx) := by
  obtain ⟨-, -, -, -, -, ⟨e0, e1⟩, -⟩ := idx_facts t
  funext d; apply Fin.ext
  match d with
  | ⟨0, _⟩ => show win0_5.index t (0 : Fin 2) * 256 + 1 * a.val = 256 * t.val + a.val; omega
  | ⟨1, _⟩ => show win0_5.index t (1 : Fin 2) * 1 + 1 * b.val = b.val; omega

theorem emb6 (t : Fin cfg0.N) (a : Fin 256) (b : Fin 3584) : ((cfg0.win 6).blk t).view.emb (ix2 a b) = (ix2 (at_ t a) b : S9216x3584.Idx) := by
  obtain ⟨-, -, -, -, -, -, e0, e1⟩ := idx_facts t
  funext d; apply Fin.ext
  match d with
  | ⟨0, _⟩ => show win0_6.index t (0 : Fin 2) * 256 + 1 * a.val = 256 * t.val + a.val; omega
  | ⟨1, _⟩ => show win0_6.index t (1 : Fin 2) * 3584 + 1 * b.val = b.val; omega

/-- A block's row is the array's. -/
theorem rowY_eq (t : Fin cfg0.N) (r : Fin 256) :
    rowY (iblk m c 0 t) (iblk m c 1 t) (iblk m c 2 t) (iblk m c 3 t) (iblk m c 4 t) r
      = row (X m c) (S m c) (W m c) (T m c) (R m c) (at_ t r) := by
  funext j
  unfold rowY row
  have h0 (k : Fin 4096) : (iblk m c 0 t : Vec Ideal S256x4096 .fp8e4m3) (ix2 r k) = X m c (ix2 (at_ t r) k) := congrArg (X m c) (emb0 t r k)
  have h1 : (iblk m c 1 t : Vec Ideal S256x1 .f32) (ix2 r 0) = S m c (ix2 (at_ t r) 0) := congrArg (S m c) (emb1 t r 0)
  have h2 (k : Fin 4096) : (iblk m c 2 t : Vec Ideal S4096x3584 .fp8e4m3) (ix2 k j) = W m c (ix2 k j) := congrArg (W m c) (emb2 t k j)
  have h3 : (iblk m c 3 t : Vec Ideal S1x3584 .f32) (ix2 0 j) = T m c (ix2 0 j) := congrArg (T m c) (emb3 t 0 j)
  have h4 : (iblk m c 4 t : Vec Ideal S256x3584 .bf16) (ix2 r j) = R m c (ix2 (at_ t r) j) := congrArg (R m c) (emb4 t r j)
  simp only [h0, h1, h2, h3, h4]

/-- What the grid point writes back, at an index. -/
theorem flushed5_apply (t : Fin cfg0.N) (r : Fin 256) : ((dats m 0 c).flushed 5 t : Vec Ideal S256x1 .f32) (ix2 r 0)
    = scaleAt (X m c) (S m c) (W m c) (T m c) (R m c) (at_ t r) := by
  rw [KernelIdeal.Value.flushed5_A, out5_eq]
  refine (blockScale_apply _ _ _ _ _ r).trans ?_
  rw [rowY_eq]
  rfl

theorem flushed6_apply (t : Fin cfg0.N) (r : Fin 256) (j : Fin 3584) : ((dats m 0 c).flushed 6 t : Vec Ideal S256x3584 .fp8e4m3) (ix2 r j)
    = codeAt (X m c) (S m c) (W m c) (T m c) (R m c) (at_ t r) j := by
  rw [KernelIdeal.Value.flushed6_A, out6_eq]
  refine (blockCodes_apply _ _ _ _ _ r j).trans ?_
  rw [rowY_eq]
  rfl

/-- Every row is a row of some block. -/
theorem row_split (r : Fin 9216) : ∃ (t : Fin cfg0.N) (a : Fin 256), r = at_ t a :=
  ⟨⟨r / 256, by have := r.isLt; have := N_eq; omega⟩, ⟨r % 256, by omega⟩, Fin.ext (by simp only [at_]; omega)⟩

/-- The scales after the run. -/
theorem final5 (r : Fin 9216) : ((dats m 0 c).arrAt 5 cfg0.N : Vec Ideal S9216x1 .f32) (ix2 r 0)
    = scaleAt (X m c) (S m c) (W m c) (T m c) (R m c) r := by
  obtain ⟨t, a, rfl⟩ := row_split r
  have h := congrFun (KernelIdeal.Value.blocks5 m c t (flush0_5 t)) (ix2 a 0)
  have h' : ((dats m 0 c).arrAt 5 cfg0.N : Vec Ideal S9216x1 .f32) (((cfg0.win 5).blk t).view.emb (ix2 a 0)) = _ := h
  rw [emb5] at h'
  exact h'.trans (flushed5_apply m c t a)

/-- The codes after the run. -/
theorem final6 (r : Fin 9216) (j : Fin 3584) : ((dats m 0 c).arrAt 6 cfg0.N : Vec Ideal S9216x3584 .fp8e4m3) (ix2 r j)
    = codeAt (X m c) (S m c) (W m c) (T m c) (R m c) r j := by
  obtain ⟨t, a, rfl⟩ := row_split r
  have h := congrFun (KernelIdeal.Value.blocks6 m c t (flush0_6 t)) (ix2 a j)
  have h' : ((dats m 0 c).arrAt 6 cfg0.N : Vec Ideal S9216x3584 .fp8e4m3) (((cfg0.win 6).blk t).view.emb (ix2 a j)) = _ := h
  rw [emb6] at h'
  exact h'.trans (flushed6_apply m c t a j)

end Cert.Scale.Ker

end
-- ==== Proof.Ref.lean ====
module

public import proofs.«01_k».proof.Proof.Gen.ReferenceIdeal.Frame
public import proofs.«01_k».proof.Proof.Spec
public import Idealize.ShloMosaic.Lib.Pipeline.Value
public import Idealize.ShloMosaic.Lib.Pointwise

/-! # What the reference's body leaves

The reference's two stored payloads, read at an index. -/

@[expose] public section

noncomputable section

namespace Cert.Scale.Ref

open Idealize.ShloMosaic Cert.ReferenceIdeal Cert.ReferenceIdeal.Gen

/-- The exponents of the row maxima `v17`, the zero row still as it comes. -/
def refExps (v17 : FVec Ideal S9216x1 .f32) : IVec S9216x1 32 :=
  have cst_10 : Ideal .f32 := Scalar.ofBits .f32 0x3B124925#32
  have v18 : FVec Ideal S9216x1 .f32 := broadcast S9216x1 cst_10
  have v19 : FVec Ideal S9216x1 .f32 := mulf v17 v18
  have v20 : IVec S1x254 32 := iota .tc S1x254 32 [1] iota_S1x254_d1_w32
  have v21 : IVec S1x254 32 := broadcast S1x254 125#32
  have v22 : IVec S1x254 32 := subi v20 v21
  have v23 : FVec Ideal S1x254 .f32 := sitofp .f32 v22
  have v24 : FVec Ideal S1x254 .f32 := exp2 v23
  have v25 : FVec Ideal S9216x254 .f32 := broadcastTo S9216x254 v19 broadcasts_S9216x1_S9216x254
  have v26 : FVec Ideal S9216x254 .f32 := broadcastTo S9216x254 v24 broadcasts_S1x254_S9216x254
  have v27 : IVec S9216x254 1 := cmpf .olt v25 v26
  have v28 : IVec S1x254 32 := shapeCast S1x254 v22 shapeCasts_S1x254_S1x254
  have v29 : IVec S9216x254 32 := broadcastTo S9216x254 v28 broadcasts_S1x254_S9216x254
  have v30 : IVec S9216x254 32 := broadcast S9216x254 128#32
  have v31 : IVec S9216x254 32 := select v27 v29 v30
  have v32 : IVec S9216 32 := multiReductionI .minsi [1] S9216 v31 2147483647#32 reduces_S9216x254_S9216 rfl
  have v33 : IVec S9216x1 32 := shapeCast S9216x1 v32 shapeCasts_S9216_S9216x1
  have cst_12 : Ideal .f32 := Scalar.ofBits .f32 0x00800000#32
  have v34 : FVec Ideal S9216x1 .f32 := broadcast S9216x1 cst_12
  have v35 : IVec S9216x1 1 := cmpf .olt v19 v34
  have cst_13 : Ideal .f32 := Scalar.ofBits .f32 0x7F800000#32
  have v36 : FVec Ideal S9216x1 .f32 := broadcast S9216x1 cst_13
  have v37 : IVec S9216x1 1 := cmpf .oeq v19 v36
  have v38 : IVec S9216x1 1 := ori v35 v37
  have v39 : IVec S9216x1 32 := broadcast S9216x1 0#32
  have v40 : IVec S9216x1 32 := select v38 v39 v33
  v40

variable (x0 : Vec Ideal S9216x4096 .fp8e4m3) (x1 : Vec Ideal S9216x1 .f32) (x2 : Vec Ideal S4096x3584 .fp8e4m3)
    (x3 : Vec Ideal S1x3584 .f32) (x4 : Vec Ideal S9216x3584 .bf16)

theorem pay6_eq : k0_pay6 x0 x2 x1 x3 x4 = refExps (k0_pay5 x0 x2 x1 x3 x4) := rfl

set_option maxRecDepth 16384 in
theorem refExps_apply (v : FVec Ideal S9216x1 .f32) (r : Fin 9216) : refExps v (ix2 r 0) = refFrexp (v (ix2 r 0) * recip448) := by
  pointwise [refExps]
  rfl

theorem pay2_apply (B : FVec Ideal S9216x1 .f32) (E : IVec S9216x1 32) (r : Fin 9216) :
    k0_pay2 B E (ix2 r 0) = refPow (if B (ix2 r 0) = 0 then 0#32 else E (ix2 r 0)) := by
  pointwise [k0_pay2, k0_pay1]
  rfl

theorem pay3_apply (A : FVec Ideal S9216x3584 .f32) (B : FVec Ideal S9216x1 .f32) (E : IVec S9216x1 32) (r : Fin 9216) (c : Fin 3584) :
    k0_pay3 A B E (ix2 r c) = code (A (ix2 r c)) (refPow (IntOp.subi 0#32 (if B (ix2 r 0) = 0 then 0#32 else E (ix2 r 0)))) := by
  pointwise [k0_pay3, k0_pay1]
  rfl

theorem pay4_apply (r : Fin 9216) (c : Fin 3584) : k0_pay4 x0 x2 x1 x3 x4 (ix2 r c) = row x0 x1 x2 x3 x4 r c := by
  pointwise [k0_pay4]
  rfl

theorem pay5_apply (r : Fin 9216) : k0_pay5 x0 x2 x1 x3 x4 (ix2 r 0) = amax (row x0 x1 x2 x3 x4 r) := by
  pointwise [k0_pay5, k0_pay4]
  rfl

theorem hz : (![0, 0] : Fin 2 → Nat) = fun _ => 0 := funext fun a => by fin_cases a <;> rfl

/-- The stored scale of a row. -/
theorem out5_apply (r : Fin 9216) : out0_5 x0 x1 x2 x3 x4 (ix2 r 0) = scaleAt x0 x1 x2 x3 x4 r := by
  unfold out0_5 k0_pay7 k0_pay8
  rw [View.canon_unit_zero hz, View.ld_unit_zero hz, View.ld_unit_zero hz, View.ld_unit_zero hz, View.ld_unit_zero hz, View.ld_unit_zero hz,
    pay2_apply, pay6_eq, refExps_apply, pay5_apply]
  rfl

/-- The stored code of an element. -/
theorem out6_apply (r : Fin 9216) (c : Fin 3584) : out0_6 x0 x1 x2 x3 x4 (ix2 r c) = codeAt x0 x1 x2 x3 x4 r c := by
  unfold out0_6 k0_pay7 k0_pay8
  rw [View.canon_unit_zero hz, View.ld_unit_zero hz, View.ld_unit_zero hz, View.ld_unit_zero hz, View.ld_unit_zero hz, View.ld_unit_zero hz,
    pay3_apply, pay6_eq, refExps_apply, pay5_apply, pay4_apply]
  rfl

end Cert.Scale.Ref

end
-- ==== Proof.RefRun.lean ====
module

public import proofs.«01_k».proof.Proof.Gen.ReferenceIdeal.Frame
public import Idealize.ShloMosaic.Lib.Pipeline.Value

/-! # The reference's run

The frame run of the reference with its two result arrays named, the arguments kept. -/

@[expose] public section

noncomputable section

namespace Cert.Scale.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocksshare no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocksshare no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.Scale.Ref

end
-- ==== Proof.RefArr.lean ====
module

public import proofs.«01_k».proof.Proof.Ref
public import proofs.«01_k».proof.Proof.RefRun
public import Idealize.ShloMosaic.Lib.Affine

/-! # The reference's result arrays

The reference's one grid point reads and writes whole arrays, so the two arrays it leaves are those of `Spec`. -/

@[expose] public section

noncomputable section

namespace Cert.Scale.Ref

open Idealize.ShloMosaic Idealize.SL.Sem Cert.ReferenceIdeal
open Cert.ReferenceIdeal.Gen Idealize.ShloMosaic.TcCoe
open Idealize.ShloMosaic.Pipeline (Dat Cfg Window)

variable (m : (ℓ : Loc nD τ sig) → Buf (Elt Ideal) ℓ) (c : Dev nD)

/-- The five arrays the region reads. -/
abbrev X : Vec Ideal S9216x4096 .fp8e4m3 := V m c main_v0
abbrev S : Vec Ideal S9216x1 .f32 := V m c main_v1
abbrev W : Vec Ideal S4096x3584 .fp8e4m3 := V m c main_arg2
abbrev T : Vec Ideal S1x3584 .f32 := V m c main_arg3
abbrev R : Vec Ideal S9216x3584 .bf16 := V m c main_v2

/-- The one grid point. -/
abbrev t₀ : Fin cfg0.N := ⟨0, by decide⟩

/-- Every window's one block is its whole array. -/
theorem idx_facts : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem blk0 (t : Fin cfg0.N) : (iblk m c 0 t : Vec Ideal S9216x4096 .fp8e4m3) = X m c := by
  obtain ⟨⟨e0, e1⟩, -⟩ := idx_facts t
  funext y
  refine congrArg (X m c) (funext fun d => Fin.ext ?_)
  match d with
  | ⟨0, _⟩ => show win0_0.index t (0 : Fin 2) * 9216 + 1 * (y 0).val = (y 0).val; omega
  | ⟨1, _⟩ => show win0_0.index t (1 : Fin 2) * 4096 + 1 * (y 1).val = (y 1).val; omega

theorem blk1 (t : Fin cfg0.N) : (iblk m c 1 t : Vec Ideal S9216x1 .f32) = S m c := by
  obtain ⟨-, ⟨e0, e1⟩, -⟩ := idx_facts t
  funext y
  refine congrArg (S m c) (funext fun d => Fin.ext ?_)
  match d with
  | ⟨0, _⟩ => show win0_1.index t (0 : Fin 2) * 9216 + 1 * (y 0).val = (y 0).val; omega
  | ⟨1, _⟩ => show win0_1.index t (1 : Fin 2) * 1 + 1 * (y 1).val = (y 1).val; omega

theorem blk2 (t : Fin cfg0.N) : (iblk m c 2 t : Vec Ideal S4096x3584 .fp8e4m3) = W m c := by
  obtain ⟨-, -, ⟨e0, e1⟩, -⟩ := idx_facts t
  funext y
  refine congrArg (W m c) (funext fun d => Fin.ext ?_)
  match d with
  | ⟨0, _⟩ => show win0_2.index t (0 : Fin 2) * 4096 + 1 * (y 0).val = (y 0).val; omega
  | ⟨1, _⟩ => show win0_2.index t (1 : Fin 2) * 3584 + 1 * (y 1).val = (y 1).val; omega

theorem blk3 (t : Fin cfg0.N) : (iblk m c 3 t : Vec Ideal S1x3584 .f32) = T m c := by
  obtain ⟨-, -, -, ⟨e0, e1⟩, -⟩ := idx_facts t
  funext y
  refine congrArg (T m c) (funext fun d => Fin.ext ?_)
  match d with
  | ⟨0, _⟩ => show win0_3.index t (0 : Fin 2) * 1 + 1 * (y 0).val = (y 0).val; omega
  | ⟨1, _⟩ => show win0_3.index t (1 : Fin 2) * 3584 + 1 * (y 1).val = (y 1).val; omega

theorem blk4 (t : Fin cfg0.N) : (iblk m c 4 t : Vec Ideal S9216x3584 .bf16) = R m c := by
  obtain ⟨-, -, -, -, ⟨e0, e1⟩, -⟩ := idx_facts t
  funext y
  refine congrArg (R m c) (funext fun d => Fin.ext ?_)
  match d with
  | ⟨0, _⟩ => show win0_4.index t (0 : Fin 2) * 9216 + 1 * (y 0).val = (y 0).val; omega
  | ⟨1, _⟩ => show win0_4.index t (1 : Fin 2) * 3584 + 1 * (y 1).val = (y 1).val; omega

theorem emb5 (t : Fin cfg0.N) (y : S9216x1.Idx) : ((cfg0.win 5).blk t).view.emb y = y := by
  obtain ⟨-, -, -, -, -, ⟨e0, e1⟩, -⟩ := idx_facts t
  funext d; apply Fin.ext
  match d with
  | ⟨0, _⟩ => show win0_5.index t (0 : Fin 2) * 9216 + 1 * (y 0).val = (y 0).val; omega
  | ⟨1, _⟩ => show win0_5.index t (1 : Fin 2) * 1 + 1 * (y 1).val = (y 1).val; omega

theorem emb6 (t : Fin cfg0.N) (y : S9216x3584.Idx) : ((cfg0.win 6).blk t).view.emb y = y := by
  obtain ⟨-, -, -, -, -, -, e0, e1⟩ := idx_facts t
  funext d; apply Fin.ext
  match d with
  | ⟨0, _⟩ => show win0_6.index t (0 : Fin 2) * 9216 + 1 * (y 0).val = (y 0).val; omega
  | ⟨1, _⟩ => show win0_6.index t (1 : Fin 2) * 3584 + 1 * (y 1).val = (y 1).val; omega

theorem read5 (t : Fin cfg0.N) (A : Vec Ideal S9216x1 .f32) (y : S9216x1.Idx) : ((cfg0.win 5).blk t).view.read (Elt Ideal) A y = A y :=
  congrArg A (emb5 t y)

theorem block5 (t : Fin cfg0.N) (hf : (cfg0.win 5).flush t = true) (y : S9216x1.Idx) : ((dats m 0 c).arrAt 5 cfg0.N : Vec Ideal S9216x1 .f32) y
    = out0_5 (X m c) (S m c) (W m c) (T m c) (R m c) y := by
  refine (read5 t _ y).symm.trans ((congrFun (blocks5 m c t hf) y).trans ?_)
  rw [flushed5, blk0, blk1, blk2, blk3, blk4]
  rfl

theorem read6 (t : Fin cfg0.N) (A : Vec Ideal S9216x3584 .fp8e4m3) (y : S9216x3584.Idx) : ((cfg0.win 6).blk t).view.read (Elt Ideal) A y = A y :=
  congrArg A (emb6 t y)

theorem block6 (t : Fin cfg0.N) (hf : (cfg0.win 6).flush t = true) (y : S9216x3584.Idx) :
    ((dats m 0 c).arrAt 6 cfg0.N : Vec Ideal S9216x3584 .fp8e4m3) y = out0_6 (X m c) (S m c) (W m c) (T m c) (R m c) y := by
  refine (read6 t _ y).symm.trans ((congrFun (blocks6 m c t hf) y).trans ?_)
  rw [flushed6, blk0, blk1, blk2, blk3, blk4]
  rfl

/-- The scales after the run. -/
theorem final5 (r : Fin 9216) : ((dats m 0 c).arrAt 5 cfg0.N : Vec Ideal S9216x1 .f32) (ix2 r 0)
    = scaleAt (X m c) (S m c) (W m c) (T m c) (R m c) r := (block5 m c t₀ (by decide) (ix2 r 0)).trans (out5_apply _ _ _ _ _ r)

/-- The codes after the run. -/
theorem final6 (r : Fin 9216) (j : Fin 3584) : ((dats m 0 c).arrAt 6 cfg0.N : Vec Ideal S9216x3584 .fp8e4m3) (ix2 r j)
    = codeAt (X m c) (S m c) (W m c) (T m c) (R m c) r j := (block6 m c t₀ (by decide) (ix2 r j)).trans (out6_apply _ _ _ _ _ r j)

end Cert.Scale.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.KerArr
public import proofs.«01_k».proof.Proof.RefArr
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

section Args

open Cert.Scale

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)

/-- The two programs reshape their arguments alike. -/
theorem X_eq (h : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)) : Ref.X m' c = Ker.X m c := by
  unfold Ref.X Ker.X
  entry_read
  rw [h]
  rfl

theorem S_eq (h : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)) : Ref.S m' c = Ker.S m c := by
  unfold Ref.S Ker.S
  entry_read
  rw [h]
  rfl

theorem W_eq (h : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)) : Ref.W m' c = Ker.W m c :=
  (Cert.ReferenceIdeal.Gen.V_main_arg2 m' c).trans (h.trans (Cert.KernelIdeal.Gen.V_main_arg2 m c).symm)

theorem T_eq (h : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)) : Ref.T m' c = Ker.T m c :=
  (Cert.ReferenceIdeal.Gen.V_main_arg3 m' c).trans (h.trans (Cert.KernelIdeal.Gen.V_main_arg3 m c).symm)

theorem R_eq (h : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)) : Ref.R m' c = Ker.R m c := by
  unfold Ref.R Ker.R
  entry_read
  rw [h]
  rfl

end Args

/-- Both programs run, and from equal arguments both results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run (Cert.ReferenceIdeal.defs (F := Ideal)) _ _).mono (fun r h c => ?_) (Cert.Scale.Ref.run_blocks m' g')
  obtain ⟨h5, h6, hk⟩ := h c
  obtain ⟨a0, a1, a2, a3, a4⟩ := hargs c
  have eX := X_eq m m' c a0
  have eS := S_eq m m' c a1
  have eW := W_eq m m' c a2
  have eT := T_eq m m' c a3
  have eR := R_eq m m' c a4
  refine ⟨h5.trans ?_, h6.trans ?_, hk⟩
  · funext i
    obtain ⟨a, rfl⟩ : ∃ a : Fin 9216, i = ix2 a (0 : Fin 1) := ⟨i 0, (eq_ix2 i).trans (congrArg (ix2 (i 0)) (Subsingleton.elim (α := Fin 1) _ _))⟩
    refine (Cert.Scale.Ref.final5 m' c a).trans ?_
    rw [eX, eS, eW, eT, eR]
    exact (Cert.Scale.Ker.final5 m c a).symm
  · funext i
    obtain ⟨a, b, rfl⟩ : ∃ (a : Fin 9216) (b : Fin 3584), i = ix2 a b := ⟨i 0, i 1, eq_ix2 i⟩
    refine (Cert.Scale.Ref.final6 m' c a b).trans ?_
    rw [eX, eS, eW, eT, eR]
    exact (Cert.Scale.Ker.final6 m c a b).symm

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g,
  trivial, algebraic⟩

end Cert.Proof

end
